-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x100000 : Shape := ⟨2, ![1024, 100000]⟩
abbrev S100000x16 : Shape := ⟨2, ![100000, 16]⟩
abbrev S100000x1024 : Shape := ⟨2, ![100000, 1024]⟩
abbrev S16x100000 : Shape := ⟨2, ![16, 100000]⟩
abbrev S16x1024 : Shape := ⟨2, ![16, 1024]⟩
abbrev S2944x1024 : Shape := ⟨2, ![2944, 1024]⟩
abbrev S16x2944 : Shape := ⟨2, ![16, 2944]⟩
abbrev S2944x1 : Shape := ⟨2, ![2944, 1]⟩
abbrev S1x2944 : Shape := ⟨2, ![1, 2944]⟩
abbrev S1024x16 : Shape := ⟨2, ![1024, 16]⟩

abbrev nBuf : Space → Nat
  | .hbm => 6
  | .vmem => 6
  | .smem => 0
  | _ => 0

abbrev bufTy : (tb : Table) → Fin (tcTables nBuf tb) → BufTy
  | .hbm, ⟨0, _⟩ => ⟨S1024x100000, .f32⟩
  | .hbm, ⟨1, _⟩ => ⟨S100000x16, .f32⟩
  | .hbm, ⟨2, _⟩ => ⟨S100000x1024, .f32⟩
  | .hbm, ⟨3, _⟩ => ⟨S16x100000, .f32⟩
  | .hbm, ⟨4, _⟩ => ⟨S16x1024, .f32⟩
  | .hbm, ⟨5, _⟩ => ⟨S1024x16, .f32⟩
  | .local _ .vmem, ⟨0, _⟩ => ⟨S2944x1024, .f32⟩
  | .local _ .vmem, ⟨1, _⟩ => ⟨S2944x1024, .f32⟩
  | .local _ .vmem, ⟨2, _⟩ => ⟨S16x2944, .f32⟩
  | .local _ .vmem, ⟨3, _⟩ => ⟨S16x2944, .f32⟩
  | .local _ .vmem, ⟨4, _⟩ => ⟨S16x1024, .f32⟩
  | .local _ .vmem, ⟨5, _⟩ => ⟨S16x1024, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![34], ![false]⟩

def k0_cond3 (i : grid0.Coords) : BitVec 1 :=
  let arg0 : BitVec 32 := BitVec.ofNat 32 (i 0).val
  let c33_i32_2 : BitVec 32 := 33#32
  let v6 : BitVec 1 := Scalar.cmpi .eq arg0 c33_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2944x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2944 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1024x100000 : Shape := ⟨2, ![1024, 100000]⟩
abbrev S100000x16 : Shape := ⟨2, ![100000, 16]⟩
abbrev S1024x16 : Shape := ⟨2, ![1024, 16]⟩

abbrev nBuf : Space → Nat
  | .hbm => 4
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S100000x16, .f32⟩
  | .hbm, ⟨2, _⟩ => ⟨S1024x16, .f32⟩
  | .hbm, ⟨3, _⟩ => ⟨S1024x16, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.BodyRuns.lean ====
/-
  The kernel's body, run on its four buffers.

  The body reads a block `X` of the transposed inputs (2944 vocabulary rows, 1024 columns), the block `M` of the
  transposed matrix that goes with it (16 rows, 2944 columns) and an accumulator of 16 rows and 1024 columns that
  stays on the core between grid points. There are three kinds of grid point: the first, which clears the
  accumulator before it adds its product; the middle ones, which only add; and the last, which masks the part of
  its blocks past the array's end, adds, and stores the rounded-down accumulator to the output. Each theorem below
  says what the accumulator (and, at the last point, the output) holds when the body returns.
-/
module

public import proofs.«01_k».proof.Proof.Gen.KernelIdeal.Skeleton
public import proofs.«01_k».proof.Proof.Gen.KernelIdeal.Frame
public import Idealize.ShloMosaic.Lib.Pipeline.Value

@[expose] public section

set_option maxRecDepth 16384

noncomputable section

namespace Cert.BlockSum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The three conditions of the body -/

/-- The body clears the accumulator at a point where this holds. -/
abbrev Clears (i : grid0.Coords) : Prop :=
  (Scalar.cmpi .ne (Scalar.extui (Scalar.cmpi .eq (BitVec.ofNat 32 (i 0).val) 0#32)) 0#32) = 1#1

/-- The body adds an unmasked product at a point where this holds. -/
abbrev Adds (i : grid0.Coords) : Prop :=
  (Scalar.cmpi .ne (Scalar.extui (Scalar.cmpi .slt (BitVec.ofNat 32 (i 0).val) 33#32)) 0#32) = 1#1

/-- The body masks, adds and stores the output at a point where this holds. -/
abbrev Finishes (i : grid0.Coords) : Prop := k0_cond3 i = 1#1

/-- The accumulator is cleared at the first point only. -/
theorem clears_iff : ∀ t : Fin cfg0.N, Clears (grid0.coords t) ↔ t.val = 0 :=
  (by decide +kernel : ∀ t : Fin grid0.N, Clears (grid0.coords t) ↔ t.val = 0)

/-- The unmasked product is added at every point before the last. -/
theorem adds_iff : ∀ t : Fin cfg0.N, Adds (grid0.coords t) ↔ t.val < 33 :=
  (by decide +kernel : ∀ t : Fin grid0.N, Adds (grid0.coords t) ↔ t.val < 33)

/-- The masked product is added, and the output stored, at the last point only. -/
theorem finishes_iff : ∀ t : Fin cfg0.N, Finishes (grid0.coords t) ↔ t.val = 33 :=
  (by decide +kernel : ∀ t : Fin grid0.N, Finishes (grid0.coords t) ↔ t.val = 33)

/-! ## The body at each kind of point -/

/-- The offset of every access of the body: the buffer's corner. -/
theorem corner : (![0, 0] : Fin 2 → Nat) = fun _ => 0 := funext fun a => by fin_cases a <;> rfl

/-- Reading back a buffer whose last store was a store of the whole buffer gives what that store wrote. -/
theorem read_last_store {sp : Space} (v : View sig .tc sp S16x1024 .f32) (f : v.ty.Contents (Elt F))
    (inb : ∀ a, (![0, 0] : Fin 2 → Nat) a + S16x1024.size a ≤ S16x1024.size a) (w : Vec F S16x1024 .f32)
    (L : List (View.Piece (Elt F) S16x1024 .f32)) :
    v.read (Elt F) (v.writes (Elt F) f ((⟨Rect.unit ![0, 0] S16x1024.size inb, w⟩ : View.Piece (Elt F) S16x1024 .f32) :: L)) = w := by
  rw [View.read_writes_eq_canon, View.canon_cons_unit_zero corner]
  intro y
  refine ⟨_, List.mem_cons_self, ?_⟩
  rw [Rect.mem_set_unit]
  intro a
  exact ⟨by rw [congrFun corner a]; exact Nat.zero_le _, by rw [congrFun corner a, Nat.zero_add]; exact (y a).isLt⟩

variable (c : Dev nD) (i : grid0.Coords)
  (arg1 : Memref sig .tc .vmem S2944x1024 .f32) (harg1 : arg1.IsWhole)
  (arg2 : Memref sig .tc .vmem S16x2944 .f32) (harg2 : arg2.IsWhole)
  (arg3 : Memref sig .tc .vmem S16x1024 .f32) (harg3 : arg3.IsWhole)
  (arg4 : Memref sig .tc .vmem S16x1024 .f32) (harg4 : arg4.IsWhole)
  (X : Vec F S2944x1024 .f32) (M : Vec F S16x2944 .f32) (A O : Vec F S16x1024 .f32)

set_option maxHeartbeats 1000000 in
/-- The first point: whatever the accumulator held, it ends holding the cleared accumulator plus the product of the
    two blocks; the blocks and the output's buffer are left alone. -/
theorem run_first (hc : Clears i) (ha : Adds i) (hf : ¬Finishes i)
    (E : Set ℕ) (K : PUnit → sProp 𝕄) :
    iprop(owns (c : Thread nD τ) arg1 fullShare X ∗ owns (c : Thread nD τ) arg2 fullShare M
        ∗ owns (c : Thread nD τ) arg3 fullShare O ∗ (∃ d, owns (c : Thread nD τ) arg4 fullShare d)
        ∗ (iprop(owns (c : Thread nD τ) arg1 fullShare X ∗ owns (c : Thread nD τ) arg2 fullShare M
            ∗ owns (c : Thread nD τ) arg3 fullShare O
            ∗ owns (c : Thread nD τ) arg4 fullShare (k0_pay2 X M k0_pay1)) -∗ K ⟨⟩))
      ⊢ wp frame (wpE (defs₀ (F := F)) Variants.none c none) E
          (cc0__mm_body i arg1 harg1 arg2 harg2 arg3 harg3 arg4 harg4) K := by
  simp only [cc0__mm_body_eq_skeleton]; unfold cc0__mm_body_skel
  unfold owns
  iintro ⟨⟨%f0, %hf0, H0⟩, ⟨%f1, %hf1, H1⟩, ⟨%f2, %hf2, H2⟩, ⟨%d3, %f3, -, H3⟩, Hk⟩
  obtain rfl := harg1.eq_unread hf0; obtain rfl := harg2.eq_unread hf1
  sl_exec (disch := first | sl_exact hc | sl_exact ha | sl_exact hf)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap; · iexact H3
  ipureintro
  sl_unfold_words
  rw [read_last_store]
  simp only [View.readCov_unit_zero (S := S16x1024) _ corner, View.readAt_eq_ld, harg1.read_unread, harg2.read_unread,
    View.ld_unit_zero (S := S2944x1024) corner, View.ld_unit_zero (S := S16x2944) corner]

set_option maxHeartbeats 1000000 in
/-- A middle point: the accumulator gains the product of the two blocks. -/
theorem run_middle (hc : ¬Clears i) (ha : Adds i) (hf : ¬Finishes i)
    (E : Set ℕ) (K : PUnit → sProp 𝕄) :
    iprop(owns (c : Thread nD τ) arg1 fullShare X ∗ owns (c : Thread nD τ) arg2 fullShare M
        ∗ owns (c : Thread nD τ) arg3 fullShare O ∗ owns (c : Thread nD τ) arg4 fullShare A
        ∗ (iprop(owns (c : Thread nD τ) arg1 fullShare X ∗ owns (c : Thread nD τ) arg2 fullShare M
            ∗ owns (c : Thread nD τ) arg3 fullShare O
            ∗ owns (c : Thread nD τ) arg4 fullShare (k0_pay2 X M A)) -∗ K ⟨⟩))
      ⊢ wp frame (wpE (defs₀ (F := F)) Variants.none c none) E
          (cc0__mm_body i arg1 harg1 arg2 harg2 arg3 harg3 arg4 harg4) K := by
  simp only [cc0__mm_body_eq_skeleton]; unfold cc0__mm_body_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg4.eq_unread hf3
  sl_exec (disch := first | sl_exact hc | sl_exact ha | sl_exact hf)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr; swap; · iexact H3
  ipureintro
  sl_unfold_words
  rw [read_last_store]
  simp only [View.readAt_eq_ld, harg1.read_unread, harg2.read_unread, harg4.read_unread,
    View.ld_unit_zero (S := S2944x1024) corner, View.ld_unit_zero (S := S16x2944) corner,
    View.ld_unit_zero (S := S16x1024) corner]

set_option maxHeartbeats 1000000 in
/-- The last point: the accumulator gains the product of the masked blocks, and the output's buffer, whatever it
    held, ends holding the accumulator rounded down. -/
theorem run_last (hc : ¬Clears i) (ha : ¬Adds i) (hf : Finishes i)
    (E : Set ℕ) (K : PUnit → sProp 𝕄) :
    iprop(owns (c : Thread nD τ) arg1 fullShare X ∗ owns (c : Thread nD τ) arg2 fullShare M
        ∗ (∃ d, owns (c : Thread nD τ) arg3 fullShare d) ∗ owns (c : Thread nD τ) arg4 fullShare A
        ∗ (iprop(owns (c : Thread nD τ) arg1 fullShare X ∗ owns (c : Thread nD τ) arg2 fullShare M
            ∗ owns (c : Thread nD τ) arg3 fullShare (k0_pay4 (k0_pay3 i X M A))
            ∗ owns (c : Thread nD τ) arg4 fullShare (k0_pay3 i X M A)) -∗ K ⟨⟩))
      ⊢ wp frame (wpE (defs₀ (F := F)) Variants.none c none) E
          (cc0__mm_body i arg1 harg1 arg2 harg2 arg3 harg3 arg4 harg4) K := by
  simp only [cc0__mm_body_eq_skeleton]; unfold cc0__mm_body_skel
  unfold owns
  iintro ⟨⟨%f0, %hf0, H0⟩, ⟨%f1, %hf1, H1⟩, ⟨%d2, %f2, -, H2⟩, ⟨%f3, %hf3, H3⟩, Hk⟩
  obtain rfl := harg1.eq_unread hf0; obtain rfl := harg2.eq_unread hf1; obtain rfl := harg4.eq_unread hf3
  sl_exec (disch := first | sl_exact hc | sl_exact ha | sl_exact hf)
  sl_step
  iapply Hk
  isplitl [H0]
  · iexists _; isplitr; · ipureintro; exact hf0
    iexact H0
  isplitl [H1]
  · iexists _; isplitr; · ipureintro; exact hf1
    iexact H1
  isplitl [H2]
  · iexists _; isplitr; swap; · iexact H2
    ipureintro
    sl_unfold_words
    rw [read_last_store]
    simp only [View.readCov_unit_zero (S := S16x1024) _ corner, View.readAt_eq_ld, harg1.read_unread, harg2.read_unread,
      harg4.read_unread, View.ld_unit_zero (S := S2944x1024) corner, View.ld_unit_zero (S := S16x2944) corner,
      View.ld_unit_zero (S := S16x1024) corner]
  iexists _; isplitr; swap; · iexact H3
  ipureintro
  sl_unfold_words
  rw [read_last_store]
  simp only [View.readAt_eq_ld, harg1.read_unread, harg2.read_unread, harg4.read_unread,
    View.ld_unit_zero (S := S2944x1024) corner, View.ld_unit_zero (S := S16x2944) corner,
    View.ld_unit_zero (S := S16x1024) corner]

end Cert.BlockSum

end
-- ==== Proof.Blocks.lean ====
/-
  What one grid point reads, and what it adds to the accumulator.

  The vocabulary axis has 100000 entries and is read 2944 at a time, so the 34th block overhangs the array: 2848 of
  its entries are inside, and what its buffer holds past them is not known. The body masks both blocks there before
  it multiplies. This file shows that the unknown entries never reach the accumulator: at every grid point the body
  adds the product of the two blocks with zeros in place of whatever lies past the array's end. The accumulator after
  each point (`acc`) is then defined by recursion on the point, in the kernel's own operations.
-/
module

public import proofs.«01_k».proof.Proof.BodyRuns
public import Idealize.ShloMosaic.Lib.PointwiseCore

@[expose] public section

set_option maxRecDepth 16384

noncomputable section

namespace Cert.BlockSum

open Cert.KernelIdeal Cert.KernelIdeal.Gen
open Idealize.ShloMosaic Idealize.ShloMosaic.TcCoe
open Idealize.SL Idealize.SL.Sem

variable {F : FTy → Type} [FloatOps F]

/-- The word put in the place of an entry past the array's end. -/
abbrev zeroWord : F .f32 := Scalar.ofBits .f32 0x00000000#32

/-! ## Which entries of a block are inside the array -/

/-- The inputs' block: all 2944 rows are inside the array before the last point, 2848 of them at the last. -/
theorem inside_inputs : ∀ t : Fin grid0.N,
    (win0_0.xsize (grid0.coords t) 0 = if t.val < 33 then 2944 else 2848)
      ∧ win0_0.xsize (grid0.coords t) 1 = 1024 := by
  decide +kernel

/-- The matrix's block: all 2944 columns are inside the array before the last point, 2848 of them at the last. -/
theorem inside_matrix : ∀ t : Fin grid0.N,
    win0_1.xsize (grid0.coords t) 0 = 16
      ∧ (win0_1.xsize (grid0.coords t) 1 = if t.val < 33 then 2944 else 2848) := by
  decide +kernel

/-- An entry of the inputs' block is fetched from the array exactly when its row is inside it. -/
theorem moved_inputs (t : Fin grid0.N) (j : S2944x1024.Idx) :
    win0_0.moved (grid0.coords t) j = true ↔ (t.val < 33 ∨ (j 0).val < 2848) := by
  have h0 : (j 0).val < 2944 := (j 0).isLt
  have h1 : (j 1).val < 1024 := (j 1).isLt
  obtain ⟨e0, e1⟩ := inside_inputs t
  rw [Pipeline.Window.moved_iff]
  constructor
  · intro h
    have h' : (j 0).val < win0_0.xsize (grid0.coords t) 0 := h 0
    rw [e0] at h'
    split at h'
    · left; assumption
    · right; exact h'
  · intro h a
    match a with
    | ⟨0, _⟩ =>
      show (j 0).val < win0_0.xsize (grid0.coords t) 0
      rw [e0]; split <;> omega
    | ⟨1, _⟩ =>
      show (j 1).val < win0_0.xsize (grid0.coords t) 1
      rw [e1]; exact h1

/-- An entry of the matrix's block is fetched from the array exactly when its column is inside it. -/
theorem moved_matrix (t : Fin grid0.N) (j : S16x2944.Idx) :
    win0_1.moved (grid0.coords t) j = true ↔ (t.val < 33 ∨ (j 1).val < 2848) := by
  have h0 : (j 0).val < 16 := (j 0).isLt
  have h1 : (j 1).val < 2944 := (j 1).isLt
  obtain ⟨e0, e1⟩ := inside_matrix t
  rw [Pipeline.Window.moved_iff]
  constructor
  · intro h
    have h' : (j 1).val < win0_1.xsize (grid0.coords t) 1 := h 1
    rw [e1] at h'
    split at h'
    · left; assumption
    · right; exact h'
  · intro h a
    match a with
    | ⟨0, _⟩ =>
      show (j 0).val < win0_1.xsize (grid0.coords t) 0
      rw [e0]; exact h0
    | ⟨1, _⟩ =>
      show (j 1).val < win0_1.xsize (grid0.coords t) 1
      rw [e1]; split <;> omega

/-! ## The last point's mask -/

/-- The last block starts at entry 33 · 2944 = 97152, so its first 2848 entries are those below 100000. -/
theorem mask_bit : ∀ r : Fin 2944,
    IntOp.cmpi .slt (IntOp.addi (Scalar.muli (BitVec.ofNat 32 33) 2944#32) (BitVec.ofNat 32 r.val)) 100000#32
      = if r.val < 2848 then 1#1 else 0#1 := by
  decide +kernel

/-- Choosing by the mask's bit is choosing by the entry's position. -/
theorem choose_bit {α : Type} (r : Fin 2944) (x y : α) :
    Scalar.select (IntOp.cmpi .slt (IntOp.addi (Scalar.muli (BitVec.ofNat 32 33) 2944#32) (BitVec.ofNat 32 r.val)) 100000#32)
      x y = if r.val < 2848 then x else y := by
  rw [mask_bit r]
  by_cases h : r.val < 2848
  · rw [if_pos h, if_pos h]; rfl
  · rw [if_neg h, if_neg h]; rfl

/-- At the last point the body adds what it adds anywhere, but to blocks that read as zero from entry 2848 on. -/
theorem masked_step (i : grid0.Coords) (hi : (i 0).val = 33) (X : Vec F S2944x1024 .f32) (M : Vec F S16x2944 .f32)
    (A : Vec F S16x1024 .f32) :
    k0_pay3 i X M A
      = k0_pay2 (fun j => if (j 0).val < 2848 then X j else zeroWord) (fun j => if (j 1).val < 2848 then M j else zeroWord) A := by
  unfold k0_pay3 k0_pay2
  simp only [shapeCast_self, hi]
  congr 2
  · funext j
    pointwise
    exact choose_bit (j 1) _ _
  · funext j
    pointwise
    exact choose_bit (j 0) _ _

/-! ## The blocks with zeros past the array's end -/

variable (m : (ℓ : Loc nD τ sig) → Buf (Elt F) ℓ) (c : Dev nD)

/-- The inputs' block at a point, zero past the array's end. -/
def xBlock (t : Fin cfg0.N) : Vec F S2944x1024 .f32 :=
  win0_0.fill (grid0.coords t) (fun _ => zeroWord) (iblk m c 0 t)

/-- The matrix's block at a point, zero past the array's end. -/
def mBlock (t : Fin cfg0.N) : Vec F S16x2944 .f32 :=
  win0_1.fill (grid0.coords t) (fun _ => zeroWord) (iblk m c 1 t)

/-- Before the last point nothing lies past the array's end, so what would have filled it is immaterial (inputs). -/
theorem fill_inputs (t : Fin cfg0.N) (ht : t.val < 33) (d : S2944x1024.Idx → Elt F .f32) :
    win0_0.fill (grid0.coords t) d (iblk m c 0 t) = xBlock m c t := by
  funext j
  have hm : win0_0.moved (grid0.coords t) j = true := (moved_inputs t j).mpr (Or.inl ht)
  unfold xBlock Pipeline.Window.fill
  rw [dif_pos hm, dif_pos hm]

/-- Before the last point nothing lies past the array's end, so what would have filled it is immaterial (matrix). -/
theorem fill_matrix (t : Fin cfg0.N) (ht : t.val < 33) (d : S16x2944.Idx → Elt F .f32) :
    win0_1.fill (grid0.coords t) d (iblk m c 1 t) = mBlock m c t := by
  funext j
  have hm : win0_1.moved (grid0.coords t) j = true := (moved_matrix t j).mpr (Or.inl ht)
  unfold mBlock Pipeline.Window.fill
  rw [dif_pos hm, dif_pos hm]

/-- At the last point, masking the inputs' block replaces exactly the unknown entries. -/
theorem mask_inputs (t : Fin cfg0.N) (ht : t.val = 33) (d : S2944x1024.Idx → Elt F .f32) :
    (fun j : S2944x1024.Idx => if (j 0).val < 2848 then win0_0.fill (grid0.coords t) d (iblk m c 0 t) j else zeroWord)
      = xBlock m c t := by
  funext j
  have hm := moved_inputs t j
  unfold xBlock Pipeline.Window.fill
  by_cases h : (j 0).val < 2848
  · rw [if_pos h, dif_pos (hm.mpr (Or.inr h)), dif_pos (hm.mpr (Or.inr h))]
  · rw [if_neg h, dif_neg fun e => by rcases hm.mp e with e | e <;> omega]

/-- At the last point, masking the matrix's block replaces exactly the unknown entries. -/
theorem mask_matrix (t : Fin cfg0.N) (ht : t.val = 33) (d : S16x2944.Idx → Elt F .f32) :
    (fun j : S16x2944.Idx => if (j 1).val < 2848 then win0_1.fill (grid0.coords t) d (iblk m c 1 t) j else zeroWord)
      = mBlock m c t := by
  funext j
  have hm := moved_matrix t j
  unfold mBlock Pipeline.Window.fill
  by_cases h : (j 1).val < 2848
  · rw [if_pos h, dif_pos (hm.mpr (Or.inr h)), dif_pos (hm.mpr (Or.inr h))]
  · rw [if_neg h, dif_neg fun e => by rcases hm.mp e with e | e <;> omega]

/-! ## The accumulator, point by point -/

/-- The accumulator after a point: cleared, then the product of each point's two blocks added in turn. -/
def acc : (n : ℕ) → n < cfg0.N → Vec F S16x1024 .f32
  | 0, h => k0_pay2 (xBlock m c ⟨0, h⟩) (mBlock m c ⟨0, h⟩) k0_pay1
  | n + 1, h => k0_pay2 (xBlock m c ⟨n + 1, h⟩) (mBlock m c ⟨n + 1, h⟩) (acc n (Nat.lt_of_succ_lt h))

/-- What a middle point leaves is the accumulator's next value, whatever fills its (uncut) blocks. -/
theorem step_middle (n : ℕ) (h : n + 1 < cfg0.N) (hn : n + 1 < 33) (d : S2944x1024.Idx → Elt F .f32)
    (d' : S16x2944.Idx → Elt F .f32) :
    k0_pay2 (win0_0.fill (grid0.coords ⟨n + 1, h⟩) d (iblk m c 0 ⟨n + 1, h⟩))
        (win0_1.fill (grid0.coords ⟨n + 1, h⟩) d' (iblk m c 1 ⟨n + 1, h⟩)) (acc m c n (Nat.lt_of_succ_lt h))
      = acc m c (n + 1) h := by
  rw [fill_inputs m c _ hn, fill_matrix m c _ hn]; rfl

/-- What the first point leaves is the accumulator's first value. -/
theorem step_first (h : 0 < cfg0.N) (d : S2944x1024.Idx → Elt F .f32) (d' : S16x2944.Idx → Elt F .f32) :
    k0_pay2 (win0_0.fill (grid0.coords ⟨0, h⟩) d (iblk m c 0 ⟨0, h⟩))
        (win0_1.fill (grid0.coords ⟨0, h⟩) d' (iblk m c 1 ⟨0, h⟩)) k0_pay1
      = acc m c 0 h := by
  rw [fill_inputs m c ⟨0, h⟩ (show (0 : ℕ) < 33 by decide), fill_matrix m c ⟨0, h⟩ (show (0 : ℕ) < 33 by decide)]; rfl

/-- What the last point leaves is the accumulator's last value: the unknown entries are masked. -/
theorem step_last (n : ℕ) (h : n + 1 < cfg0.N) (hn : n + 1 = 33) (d : S2944x1024.Idx → Elt F .f32)
    (d' : S16x2944.Idx → Elt F .f32) :
    k0_pay3 (grid0.coords ⟨n + 1, h⟩) (win0_0.fill (grid0.coords ⟨n + 1, h⟩) d (iblk m c 0 ⟨n + 1, h⟩))
        (win0_1.fill (grid0.coords ⟨n + 1, h⟩) d' (iblk m c 1 ⟨n + 1, h⟩)) (acc m c n (Nat.lt_of_succ_lt h))
      = acc m c (n + 1) h := by
  have hi : (grid0.coords ⟨n + 1, h⟩ 0).val = 33 := by
    have e : (grid0.coords ⟨n + 1, h⟩ 0).val = (n + 1) / 1 % 34 := Pipeline.Grid.coords_val ⟨n + 1, h⟩ 0 (by decide) rfl
    omega
  rw [masked_step _ hi]
  have hx := mask_inputs m c ⟨n + 1, h⟩ hn d
  have hm := mask_matrix m c ⟨n + 1, h⟩ hn d'
  show k0_pay2 _ _ _ = k0_pay2 _ _ _
  rw [← hx, ← hm]

end Cert.BlockSum

end
-- ==== Proof.Launch.lean ====
/-
  The launch: what the kernel's buffers hold at every grid point, and what its arrays hold at the end.

  Between points the accumulator holds `acc` of the point just finished; before the first point it holds anything. The
  output's buffer is written at the last point only, with the accumulator rounded down. From the body's runs
  (`BodyRuns`) and the accumulator's steps (`Blocks`) the body meets the pipeline's obligation at every point, so the
  whole program runs, faults nowhere, leaves every semaphore counter at zero, and leaves its arrays at contents the
  library computes from the data stated here.
-/
module

public import proofs.«01_k».proof.Proof.Blocks
public import Idealize.ShloMosaic.Lib.Claim

@[expose] public section

set_option maxRecDepth 16384

noncomputable section

namespace Cert.BlockSum

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The accumulator's buffer. -/
abbrev accBuf : Memref sig .tc .vmem S16x1024 .f32 := Memref.whole cc0_scratch0

/-- What holds of the accumulator before a grid point: nothing known before the first, `acc` of the point before
    otherwise (and the generator register is at some state throughout). -/
def between (c : Dev nD) : (n : ℕ) → n ≤ cfg0.N → sProp 𝕄
  | 0, _ => Pipeline.ΦA spec0 c
  | n + 1, h => iprop(owns (c : Thread nD τ) accBuf fullShare (acc m c n h) ∗ (∃ r, prngReg c r))

/-- What the pipeline's buffers hold after the body: the two blocks, and the accumulator rounded down. -/
def dats (_ : Fin 1) (c : Dev nD) : Dat τ (Elt F) Unit ℕ (UR sig nD τ) ℕ cfg0 c where
  A w := V m c (Pipeline.arrRef spec0 w)
  after w t := match w with
    | ⟨0, _⟩ => xBlock m c t
    | ⟨1, _⟩ => mBlock m c t
    | ⟨2, _⟩ => k0_pay4 (acc m c t.val t.isLt)
  Φ t := between m c t.val (Nat.le_of_lt_succ t.isLt)
  q _ := fullShare
  owed _ := 0

/-- The arrays are as the region finds them. -/
theorem arrays_found (c : Dev nD) (w : Fin cfg0.W) : (dats m 0 c).A w = V m c (Pipeline.arrRef spec0 w) := by
  dsimp only [dats]

/-- The state of the accumulator at a point's start. -/
theorem before_point (c : Dev nD) (t : Fin cfg0.N) :
    (dats m 0 c).Φ t.castSucc = between m c t.val (Nat.le_of_lt t.isLt) := by
  dsimp only [dats]; exact Pipeline.Dat.Φ_castSucc (between m c) t

/-- The state of the accumulator at a point's end. -/
theorem after_point (c : Dev nD) (t : Fin cfg0.N) :
    (between m c (t.val + 1) t.isLt : sProp 𝕄)
      = iprop(owns (c : Thread nD τ) accBuf fullShare (acc m c t.val t.isLt) ∗ (∃ r, prngReg c r)) := rfl

/-- Before the first point: the accumulator's buffer at anything. -/
theorem unknown_eq (c : Dev nD) :
    (Pipeline.ΦA spec0 c : sProp 𝕄)
      = iprop((∃ d, owns (c : Thread nD τ) accBuf fullShare d) ∗ (∃ r, prngReg c r)) := by
  unfold Pipeline.ΦA; rw [scopedRest0_eq]; simp only [accBuf, owns_whole]; rfl

/-- The inputs' buffer arrives holding the block just fetched, and anything past the array's end. -/
theorem inputs_arrive (c : Dev nD) (t : Fin cfg0.N) (d) :
    (dats m 0 c).before 0 t d = win0_0.fill (grid0.coords t) d (iblk m c 0 t) := by
  unfold Dat.before; rw [if_pos (fetch0_0 t)]; rfl

/-- The matrix's buffer arrives holding the block just fetched, and anything past the array's end. -/
theorem matrix_arrives (c : Dev nD) (t : Fin cfg0.N) (d) :
    (dats m 0 c).before 1 t d = win0_1.fill (grid0.coords t) d (iblk m c 1 t) := by
  unfold Dat.before; rw [if_pos (fetch0_1 t)]; rfl

/-- The output is not written, and not sent to its array, before the last point. -/
theorem output_idle : ∀ t : Fin cfg0.N, t.val < 33 → idle0 2 (grid0.coords t) = true ∧ (cfg0.win 2).flush t = false :=
  (by decide +kernel : ∀ t : Fin grid0.N, t.val < 33 → idle0 2 (grid0.coords t) = true ∧ (cfg0.win 2).flush t = false)

/-- It is written at the last point. -/
theorem output_live : ∀ t : Fin cfg0.N, t.val = 33 → idle0 2 (grid0.coords t) = false :=
  (by decide +kernel : ∀ t : Fin grid0.N, t.val = 33 → idle0 2 (grid0.coords t) = false)

/-! ## The body's obligation -/

/-- What the body must give back of the two blocks' buffers: the block where it lies inside the array. -/
theorem give_back (c : Dev nD) (t : Fin cfg0.N) (d0 : S2944x1024.Idx → Elt F .f32) (d1 : S16x2944.Idx → Elt F .f32) :
    win0_0.fill (grid0.coords t) d0 (win0_0.cut (grid0.coords t) (xBlock m c t)) = win0_0.fill (grid0.coords t) d0 (iblk m c 0 t)
      ∧ win0_1.fill (grid0.coords t) d1 (win0_1.cut (grid0.coords t) (mBlock m c t)) = win0_1.fill (grid0.coords t) d1 (iblk m c 1 t) := by
  constructor
  · exact congrArg _ (win0_0.cut_fill _ _ _)
  · exact congrArg _ (win0_1.cut_fill _ _ _)

/-- The buffer a window is on at a point. -/
abbrev xBuf (t : Fin cfg0.N) : Memref sig .tc .vmem S2944x1024 .f32 := win0_0.stage (cfg0.slots t 0)
/-- The matrix's. -/
abbrev mBuf (t : Fin cfg0.N) : Memref sig .tc .vmem S16x2944 .f32 := win0_1.stage (cfg0.slots t 1)
/-- The output's. -/
abbrev oBuf (t : Fin cfg0.N) : Memref sig .tc .vmem S16x1024 .f32 := win0_2.stage (cfg0.slots t 2)

/-- What the body leaves of the output's buffer: untouched before the last point, the result at it. -/
def outputLeft (c : Dev nD) (t : Fin cfg0.N) : sProp 𝕄 :=
  if t.val < 33 then iprop(∃ d, owns (c : Thread nD τ) (oBuf t) fullShare ((dats m 0 c).before 2 t d))
  else owns (c : Thread nD τ) (oBuf t) fullShare (k0_pay4 (acc m c t.val t.isLt))

/-- The body at any point: the accumulator goes from the point before to this one. -/
theorem body_at (c : Dev nD) (t : Fin cfg0.N) (d0 : S2944x1024.Idx → Elt F .f32) (d1 : S16x2944.Idx → Elt F .f32)
    (K : PUnit → sProp 𝕄) :
    iprop(between m c t.val (Nat.le_of_lt t.isLt)
        ∗ owns (c : Thread nD τ) (xBuf t) fullShare (win0_0.fill (grid0.coords t) d0 (iblk m c 0 t))
        ∗ owns (c : Thread nD τ) (mBuf t) fullShare (win0_1.fill (grid0.coords t) d1 (iblk m c 1 t))
        ∗ (∃ d, owns (c : Thread nD τ) (oBuf t) fullShare ((dats m 0 c).before 2 t d))
        ∗ (iprop(between m c (t.val + 1) t.isLt
            ∗ owns (c : Thread nD τ) (xBuf t) fullShare (win0_0.fill (grid0.coords t) d0 (iblk m c 0 t))
            ∗ owns (c : Thread nD τ) (mBuf t) fullShare (win0_1.fill (grid0.coords t) d1 (iblk m c 1 t))
            ∗ outputLeft m c t) -∗ K ⟨⟩))
      ⊢ wp frame (wpE (defs₀ (F := F)) Variants.none c none) Set.univ (bodyAt0 t) K := by
  have hN : t.val < 34 := lt_of_lt_of_eq t.isLt (show cfg0.N = 34 from N_0)
  have hc := clears_iff t
  have ha := adds_iff t
  have hf := finishes_iff t
  rw [after_point]
  obtain ⟨n, hn⟩ := t
  unfold outputLeft
  cases n with
  | zero =>
    rw [if_pos (show (0 : ℕ) < 33 by decide)]
    show iprop(Pipeline.ΦA spec0 c ∗ _) ⊢ _
    rw [unknown_eq]
    iintro ⟨⟨HA, Hg⟩, HX, HM, ⟨%d, HO⟩, Hk⟩
    iapply (run_first c (grid0.coords ⟨0, hn⟩) _ _ _ _ _ _ _ _ _ _ _ (hc.mpr rfl) (ha.mpr (show (0 : ℕ) < 33 by decide))
      (fun h => absurd (hf.mp h) (show ¬(0 : ℕ) = 33 by decide)) Set.univ K)
    isplitl [HX]; · iexact HX
    isplitl [HM]; · iexact HM
    isplitl [HO]; · iexact HO
    isplitl [HA]; · iexact HA
    rw [step_first]
    iintro ⟨HX, HM, HO, HA⟩
    iapply Hk
    isplitl [HA Hg]
    · isplitl [HA]; · iexact HA
      iexact Hg
    isplitl [HX]; · iexact HX
    isplitl [HM]; · iexact HM
    iexists d; iexact HO
  | succ n =>
    have hc' : ¬Clears (grid0.coords ⟨n + 1, hn⟩) := fun h => absurd (hc.mp h) (Nat.succ_ne_zero n)
    show iprop(iprop(owns (c : Thread nD τ) accBuf fullShare (acc m c n (Nat.lt_of_succ_lt hn)) ∗ (∃ r, prngReg c r)) ∗ _) ⊢ _
    by_cases h : n + 1 < 33
    · rw [if_pos (show (⟨n + 1, hn⟩ : Fin cfg0.N).val < 33 from h)]
      iintro ⟨⟨HA, Hg⟩, HX, HM, ⟨%d, HO⟩, Hk⟩
      iapply (run_middle c (grid0.coords ⟨n + 1, hn⟩) _ _ _ _ _ _ _ _ _ _ _ _ hc' (ha.mpr h)
        (fun e => absurd (hf.mp e) (show ¬n + 1 = 33 by omega)) Set.univ K)
      isplitl [HX]; · iexact HX
      isplitl [HM]; · iexact HM
      isplitl [HO]; · iexact HO
      isplitl [HA]; · iexact HA
      rw [step_middle m c n hn h]
      iintro ⟨HX, HM, HO, HA⟩
      iapply Hk
      isplitl [HA Hg]
      · isplitl [HA]; · iexact HA
        iexact Hg
      isplitl [HX]; · iexact HX
      isplitl [HM]; · iexact HM
      iexists d; iexact HO
    · have h33 : n + 1 = 33 := by have : n + 1 < 34 := hN; omega
      rw [if_neg (show ¬(⟨n + 1, hn⟩ : Fin cfg0.N).val < 33 from h)]
      iintro ⟨⟨HA, Hg⟩, HX, HM, ⟨%d, HO⟩, Hk⟩
      iapply (run_last c (grid0.coords ⟨n + 1, hn⟩) _ _ _ _ _ _ _ _ _ _ _ hc' (fun e => h (ha.mp e)) (hf.mpr h33) Set.univ K)
      isplitl [HX]; · iexact HX
      isplitl [HM]; · iexact HM
      isplitl [HO]; · iexists _; iexact HO
      isplitl [HA]; · iexact HA
      rw [step_last m c n hn h33]
      iintro ⟨HX, HM, HO, HA⟩
      iapply Hk
      isplitl [HA Hg]
      · isplitl [HA]; · iexact HA
        iexact Hg
      isplitl [HX]; · iexact HX
      isplitl [HM]; · iexact HM
      iexact HO

/-- The body table's row at a point is the body on that point's buffers. -/
theorem row_at (t : Fin cfg0.N) : defs₀ (F := F) .tc cfg0.body (cfg0.bodyArgs t (cfg0.slots t)) = bodyAt0 t := by
  unfold defs₀; rw [Defs.onTc_tc]

/-- The pipeline's obligation of the body, at every point. -/
theorem obligation (c : Dev nD) : BodyObligationLoose (dats (F := F) m 0 c) (defs₀ (F := F)) Variants.none () Set.univ := fun t => by
  have hN : t.val < 34 := lt_of_lt_of_eq t.isLt (show cfg0.N = 34 from N_0)
  rw [bigSep_W0, bigSep_W0, row_at]
  simp only
  rw [before_point, show (dats m 0 c).owesAt () t.succ = (dats m 0 c).owesAt () t.castSucc from rfl,
    show (dats m 0 c).Φ t.succ = between m c (t.val + 1) t.isLt from rfl]
  iintro ⟨HA, Ho, ⟨%d0, HX⟩, ⟨%d1, HM⟩, HO⟩
  rw [inputs_arrive m c t d0, matrix_arrives m c t d1]
  iapply (body_at m c t d0 d1 _)
  isplitl [HA]; · iexact HA
  isplitl [HX]; · iexact HX
  isplitl [HM]; · iexact HM
  isplitl [HO]; · iexact HO
  iintro ⟨HA, HX, HM, HO⟩
  isplitl [HA]; · iexact HA
  isplitl [Ho]; · iexact Ho
  obtain ⟨ex, em⟩ := give_back m c t d0 d1
  isplitl [HX]
  · iexists d0
    change _ ⊢ owns (c : Thread nD τ) (xBuf t) fullShare (win0_0.fill (grid0.coords t) d0 (win0_0.cut (grid0.coords t) (xBlock m c t)))
    rw [ex]; try iexact HX
  isplitl [HM]
  · iexists d1
    change _ ⊢ owns (c : Thread nD τ) (mBuf t) fullShare (win0_1.fill (grid0.coords t) d1 (win0_1.cut (grid0.coords t) (mBlock m c t)))
    rw [em]; try iexact HM
  unfold outputLeft
  by_cases h : t.val < 33
  · rw [if_pos h]
    obtain ⟨hi, hfl⟩ := output_idle t h
    simp only [hi, hfl]
    exact BI.Entails.refl _
  · rw [if_neg h]
    have hl := output_live t (by omega)
    simp only [hl]
    exact BI.Entails.refl _

/-- What the launch hands over is what is asked before the first point. -/
theorem enter (c : Dev nD) : Pipeline.ΦA spec0 c ⊢ (dats m 0 c).Φ 0 := by
  rw [show (dats m 0 c).Φ 0 = Pipeline.ΦA spec0 c from rfl]

/-- After the last point the accumulator's contents are forgotten. -/
theorem leave (c : Dev nD) : (dats m 0 c).Φ (Fin.last cfg0.N) ⊢ Pipeline.ΦA spec0 c := by
  have e : (dats m 0 c).Φ (Fin.last cfg0.N)
      = iprop(owns (c : Thread nD τ) accBuf fullShare (acc m c 33 (by rw [show cfg0.N = 34 from N_0]; decide)) ∗ (∃ r, prngReg c r)) := rfl
  rw [e, unknown_eq]
  iintro ⟨HA, Hg⟩
  isplitl [HA]
  · iexists _; iexact HA
  iexact Hg

/-! ## The run -/

set_option backward.isDefEq.respectTransparency.types false in
set_option maxHeartbeats 800000 in
/-- The whole program, at any float instance: it runs, its arrays end as the data above say, and every semaphore
    counter ends at zero. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := arrays_found m) (hin := enter m) (hout := leave m)

/-- The program runs, leaves its arguments as it found them, and leaves every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (arrays_found m) ((θ_run defs _ _).mono (fun _ h => h.1) (run m ρ)))
    ((θ_run defs _ _).mono (fun _ h => h.2) (run m ρ))

end Cert.BlockSum

end
-- ==== Proof.SameText.lean ====
/-
  The kernel and its idealization are one program.

  No operation was rewritten, so the two printed programs have the same text and differ only in the namespace they
  stand in. Every theorem about a run is proved once, for the idealization's text at any float instance; this file
  carries the frame over to the kernel itself. The body tables are compared label by label (there is one), the rest
  agrees by unfolding.
-/
module

public import proofs.«01_k».proof.Proof.Launch
public import proofs.«01_k».proof.Proof.Gen.Kernel.Frame

@[expose] public section

set_option maxRecDepth 16384

noncomputable section

namespace Cert.BlockSum

open Idealize.ShloMosaic Idealize.ShloMosaic.TcCoe Idealize.SL.Sem

variable {F : FTy → Type} [FloatOps F]

/-- The one label's body is the same in both programs. -/
theorem label_same : ∀ (a : Fin 1) b, Kernel.defs₀ (F := F) .tc a b = KernelIdeal.defs₀ (F := F) .tc a b
  | ⟨0, _⟩, (_, _) => rfl

/-- So the body tables are the same on every kind of core. -/
theorem bodies_same : Kernel.defs₀ (F := F) = KernelIdeal.defs₀ (F := F) := by
  funext p
  match p with
  | .tc => funext a b; exact label_same a b
  | .scScalar _ => rfl
  | .scVector _ _ => rfl

/-- And so are the tables with the pipeline's own labels. -/
theorem tables_same : Kernel.defs (F := F) = KernelIdeal.defs (F := F) :=
  congrArg (fun d => Pipeline.defs KernelIdeal.pcfgs d) bodies_same

/-- The kernel as printed runs, leaves its arguments as it found them, and leaves every semaphore counter at zero. -/
theorem frame_printed (m : (ℓ : Loc Kernel.nD Kernel.τ Kernel.sig) → Buf (Elt F) ℓ) (ρ : Dev Kernel.nD → PrngReg) :
    θ_run Kernel.defs (onTc (τ := Kernel.τ) (Kernel.main (F := F))) ⟨m, fun _ => 0, ρ⟩ (fun r => (∀ c : Dev Kernel.nD,
      r.2.mem ((c.tc : Thread Kernel.nD Kernel.τ).loc Kernel.main_arg0) = m ((c.tc : Thread Kernel.nD Kernel.τ).loc Kernel.main_arg0)
      ∧ r.2.mem ((c.tc : Thread Kernel.nD Kernel.τ).loc Kernel.main_arg1) = m ((c.tc : Thread Kernel.nD Kernel.τ).loc Kernel.main_arg1))
      ∧ r.2.sem = fun _ => 0) := by
  rw [tables_same]
  exact frame (F := F) m ρ

end Cert.BlockSum

end
-- ==== Proof.Output.lean ====
/-
  What the program's arrays hold at the end, at any float instance.

  The accumulator is written back once, at the last grid point, rounded down; that one block is the whole of the
  launch's output array. The host then transposes it into the program's result. The launch's two inputs are the
  transposes of the program's arguments.
-/
module

public import proofs.«01_k».proof.Proof.Launch
public import Idealize.ShloMosaic.Lib.Pipeline.Value
public import Idealize.ShloMosaic.Lib.Pipeline.ValueKit.Geometry
public import Idealize.ShloMosaic.Lib.StableHlo.Run

@[expose] public section

set_option maxRecDepth 16384

noncomputable section

namespace Cert.BlockSum

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- There are 34 points, so there is a point 33. -/
theorem last_point : 33 < cfg0.N := by rw [show cfg0.N = 34 from N_0]; decide

/-- The accumulator after the last point, rounded down. -/
abbrev rounded (c : Dev nD) : Vec F S16x1024 .f32 := k0_pay4 (acc m c 33 last_point)

/-- The launch's output array ends holding it: one write-back, of one block that is the whole array. -/
theorem array_end (c : Dev nD) : (dats m 0 c).arrAt 2 cfg0.N = rounded m c :=
  (dats m 0 c).arrAt_eq_of_after_last 2 ⟨33, last_point⟩
    ((by decide +kernel : win0_2.WholeAt (⟨33, by decide⟩ : Fin grid0.N))) (rounded m c) fun j => rfl

/-- The transposed inputs, as the launch finds them. -/
theorem found_inputs (c : Dev nD) : V m c main_v0
    = transpose S100000x1024 [1, 0] (m ((c : Thread nD τ).loc main_arg0)) transposes_S1024x100000_S100000x1024_1_0 := by
  unfold V V0
  simp only [hostOps0, List.flatten_cons, List.flatten_nil, List.append_nil]
  after_results

/-- The transposed matrix, as the launch finds it. -/
theorem found_matrix (c : Dev nD) : V m c main_v1
    = transpose S16x100000 [1, 0] (m ((c : Thread nD τ).loc main_arg1)) transposes_S100000x16_S16x100000_1_0 := by
  unfold V V0
  simp only [hostOps0, List.flatten_cons, List.flatten_nil, List.append_nil]
  after_results

/-- The program's result: the output array transposed. -/
theorem result_end (c : Dev nD) : Pipeline.afterTail₀ cfgs (dats m) 0 (V0 m) [hostOps1] c main_v3
    = transpose S1024x16 [1, 0] (rounded m c) transposes_S16x1024_S1024x16_1_0 := by
  rw [← array_end m c]
  unfold Pipeline.afterTail₀
  simp only [hostOps1, List.flatten_cons, List.flatten_nil, List.append_nil]
  after_results
  exact congrArg (fun A => transpose S1024x16 [1, 0] A transposes_S16x1024_S1024x16_1_0)
    (Pipeline.withArrays_arr spec0 launch0.win.arr_inj c (V0 m c) (fun w => (dats m 0 c).arrAt w cfg0.N) 2)

/-- The run, read at the result and the arguments. -/
theorem run_values : θ_run defs (onTc (τ := τ) (main (F := F))) ⟨m, fun _ => 0, ρ⟩ (fun r => ∀ c : Dev nD,
      r.2.mem ((c.tc : Thread nD τ).loc main_v3)
          = transpose S1024x16 [1, 0] (rounded m c) transposes_S16x1024_S1024x16_1_0
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1.1 c).2 main_v3 (Pipeline.mem_restRefs_of main_v3 (by decide) (by decide))).trans (result_end m c), h.2.1 c⟩)
    (θ_run_and (run m ρ) (frame m ρ))

end Cert.BlockSum

end
-- ==== Proof.Sums.lean ====
/-
  The accumulator over the extended reals.

  One point adds, at each entry, the sum of 2944 products. An entry of a point's block is an entry of an argument, or
  zero when it lies past the array's end. So after all 34 points an entry of the accumulator is a sum of 34 · 2944 =
  100096 products of which the last 96 are zero: the sum over the vocabulary's 100000 entries.
-/
module

public import proofs.«01_k».proof.Proof.Output
public import Idealize.ShloMosaic.PureOps.Ideal
public import Idealize.ShloMosaic.Lib.Pointwise
public import Idealize.ShloMosaic.Lib.Pipeline.ValueKit.Acc

@[expose] public section

set_option maxRecDepth 16384

noncomputable section

namespace Cert.BlockSum

open Cert.KernelIdeal Cert.KernelIdeal.Gen
open Idealize.ShloMosaic Idealize.ShloMosaic.TcCoe
open Idealize.SL Idealize.SL.Sem
open scoped BigOperators

/-! ## One point -/

/-- One point adds to an entry the sum of the products of a row of the matrix's block and a column of the inputs'. -/
theorem step_entry (X : Vec Ideal S2944x1024 .f32) (M : Vec Ideal S16x2944 .f32) (A : Vec Ideal S16x1024 .f32)
    (i : Fin 16) (j : Fin 1024) :
    k0_pay2 X M A (ix2 i j) = A (ix2 i j) + ∑ r : Fin 2944, M (ix2 i r) * X (ix2 r j) := by
  unfold k0_pay2
  pointwise

/-- The accumulator is cleared to zero. -/
theorem clear_entry (i : Fin 16) (j : Fin 1024) : (k0_pay1 (F := Ideal)) (ix2 i j) = 0 := by
  unfold k0_pay1
  pointwise

/-! ## What the blocks hold -/

variable (m : (ℓ : Loc nD τ sig) → Buf (Elt Ideal) ℓ) (c : Dev nD)

/-- The program's first argument, `inputs`. -/
abbrev inputs : Vec Ideal S1024x100000 .f32 := m ((c : Thread nD τ).loc main_arg0)
/-- The program's second argument, `matrix`. -/
abbrev matrix : Vec Ideal S100000x16 .f32 := m ((c : Thread nD τ).loc main_arg1)

/-- Row `j` of the inputs at any position of the vocabulary axis, zero past its end. -/
def inputAt (j : Fin 1024) (k : ℕ) : EReal := if h : k < 100000 then inputs m c (ix2 j ⟨k, h⟩) else 0
/-- Column `i` of the matrix at any position of the vocabulary axis, zero past its end. -/
def matrixAt (i : Fin 16) (k : ℕ) : EReal := if h : k < 100000 then matrix m c (ix2 ⟨k, h⟩ i) else 0

/-- The blocks' places: the point's own along the vocabulary axis, the first along the other. -/
theorem places : ∀ t : Fin grid0.N, win0_0.index t = ![t.val, 0] ∧ win0_1.index t = ![0, t.val] := by
  decide +kernel

/-- The word put in past the end is zero. -/
theorem zeroWord_eq : (zeroWord : Ideal .f32) = 0 := Ideal.ofBits_zero_f32

/-- An entry of the inputs' block is the inputs' entry there, or zero past the end. -/
theorem xBlock_entry (t : Fin cfg0.N) (r : Fin 2944) (j : Fin 1024) :
    xBlock m c t (ix2 r j) = inputAt m c j (t.val * 2944 + r.val) := by
  have hN : t.val < 34 := lt_of_lt_of_eq t.isLt (show cfg0.N = 34 from N_0)
  have hr := r.isLt
  have hm := moved_inputs t (ix2 r j)
  have e0 := fun t => (places t).1
  unfold xBlock inputAt Pipeline.Window.fill
  by_cases h : t.val * 2944 + r.val < 100000
  · rw [dif_pos h, dif_pos (hm.mpr (by show t.val < 33 ∨ r.val < 2848; omega))]
    have hV : V m c main_v0 (ix2 ⟨t.val * 2944 + r.val, h⟩ j) = inputs m c (ix2 j ⟨t.val * 2944 + r.val, h⟩) := by
      rw [found_inputs]; pointwise
    rw [← hV]
    blk_ext [iblk, e0]
  · rw [dif_neg h, dif_neg (fun e => by have e' : t.val < 33 ∨ r.val < 2848 := hm.mp e; omega)]
    exact zeroWord_eq

/-- An entry of the matrix's block is the matrix's entry there, or zero past the end. -/
theorem mBlock_entry (t : Fin cfg0.N) (i : Fin 16) (r : Fin 2944) :
    mBlock m c t (ix2 i r) = matrixAt m c i (t.val * 2944 + r.val) := by
  have hN : t.val < 34 := lt_of_lt_of_eq t.isLt (show cfg0.N = 34 from N_0)
  have hr := r.isLt
  have hm := moved_matrix t (ix2 i r)
  have e1 := fun t => (places t).2
  unfold mBlock matrixAt Pipeline.Window.fill
  by_cases h : t.val * 2944 + r.val < 100000
  · rw [dif_pos h, dif_pos (hm.mpr (by show t.val < 33 ∨ r.val < 2848; omega))]
    have hV : V m c main_v1 (ix2 i ⟨t.val * 2944 + r.val, h⟩) = matrix m c (ix2 ⟨t.val * 2944 + r.val, h⟩ i) := by
      rw [found_matrix]; pointwise
    rw [← hV]
    blk_ext [iblk, e1]
  · rw [dif_neg h, dif_neg (fun e => by have e' : t.val < 33 ∨ r.val < 2848 := hm.mp e; omega)]
    exact zeroWord_eq

/-! ## All points -/

/-- The accumulator after point `n`: the products of the blocks up to it. -/
theorem acc_entry (i : Fin 16) (j : Fin 1024) : ∀ (n : ℕ) (h : n < cfg0.N), acc m c n h (ix2 i j)
    = ∑ t ∈ Finset.range (n + 1), ∑ r ∈ Finset.range 2944,
        matrixAt m c i (t * 2944 + r) * inputAt m c j (t * 2944 + r)
  | 0, h => by
    rw [acc, step_entry, clear_entry, zero_add, Finset.sum_range_one,
      ← Fin.sum_univ_eq_sum_range (fun r => matrixAt m c i (0 * 2944 + r) * inputAt m c j (0 * 2944 + r))]
    exact Finset.sum_congr rfl fun r _ => by rw [mBlock_entry, xBlock_entry]
  | n + 1, h => by
    rw [acc, step_entry, acc_entry i j n, Finset.sum_range_succ _ (n + 1),
      ← Fin.sum_univ_eq_sum_range (fun r => matrixAt m c i ((n + 1) * 2944 + r) * inputAt m c j ((n + 1) * 2944 + r))]
    exact congrArg _ (Finset.sum_congr rfl fun r _ => by rw [mBlock_entry, xBlock_entry])

/-- After the last point: the sum over the whole vocabulary. -/
theorem total_entry (i : Fin 16) (j : Fin 1024) :
    acc m c 33 last_point (ix2 i j) = ∑ k : Fin 100000, matrix m c (ix2 k i) * inputs m c (ix2 j k) := by
  rw [acc_entry, ← Finset.sum_range_mul_split 34 2944 fun l => matrixAt m c i l * inputAt m c j l,
    ← Finset.sum_subset (Finset.range_subset_range.mpr (show 100000 ≤ 34 * 2944 by decide)) fun k _ hk => by
      have hk' : ¬k < 100000 := fun e => hk (Finset.mem_range.mpr e)
      unfold matrixAt
      rw [dif_neg hk', zero_mul],
    ← Fin.sum_univ_eq_sum_range (fun l => matrixAt m c i l * inputAt m c j l)]
  refine Finset.sum_congr rfl fun k _ => ?_
  unfold matrixAt inputAt
  rw [dif_pos k.isLt, dif_pos k.isLt]

end Cert.BlockSum

end
-- ==== Proof.Equation.lean ====
/-
  The equation: the kernel's result and the reference's are one array of extended reals.

  The reference computes one dot product over the vocabulary per entry and rounds it down. The kernel's entry is the
  same sum cut in 34 stretches, with the factors of each product in the other order and the array transposed.
-/
module

public import proofs.«01_k».proof.Proof.Sums
public import proofs.«01_k».proof.Proof.Gen.ReferenceIdeal

@[expose] public section

set_option maxRecDepth 16384

noncomputable section

namespace Cert.BlockSum

open Idealize.ShloMosaic Idealize.ShloMosaic.TcCoe
open Idealize.SL Idealize.SL.Sem
open scoped BigOperators

/-- What the reference computes from the inputs and the matrix. -/
abbrev reference (x : FVec Ideal ReferenceIdeal.S1024x100000 .f32) (y : FVec Ideal ReferenceIdeal.S100000x16 .f32) :
    FVec Ideal ReferenceIdeal.S1024x16 .f32 :=
  Host.floor (Host.dotGeneral (φ₁ := .f32) (φ₂ := .f32) ReferenceIdeal.dot_S1024x100000_S100000x16_S1024x16_1_0_0_1_n_n none x y)

/-- An entry of it: the dot product of a row and a column, rounded down. -/
theorem reference_entry (x : FVec Ideal ReferenceIdeal.S1024x100000 .f32) (y : FVec Ideal ReferenceIdeal.S100000x16 .f32)
    (j : Fin 1024) (i : Fin 16) :
    reference x y (ix2 j i) = Idealize.ShloMosaic.Ideal.liftRound Int.floor (∑ k : Fin 100000, x (ix2 j k) * y (ix2 k i)) := by
  pointwise [reference]

variable (m : (ℓ : Loc KernelIdeal.nD KernelIdeal.τ KernelIdeal.sig) → Buf (Elt Ideal) ℓ) (c : Dev KernelIdeal.nD)

/-- An entry of the kernel's result: the accumulated sum, rounded down. -/
theorem kernel_entry (j : Fin 1024) (i : Fin 16) :
    transpose KernelIdeal.S1024x16 [1, 0] (rounded m c) KernelIdeal.Gen.transposes_S16x1024_S1024x16_1_0 (ix2 j i)
      = Idealize.ShloMosaic.Ideal.liftRound Int.floor (acc m c 33 last_point (ix2 i j)) := by
  pointwise [rounded, KernelIdeal.Gen.k0_pay4]

/-- The two results are equal. -/
theorem results_equal :
    transpose KernelIdeal.S1024x16 [1, 0] (rounded m c) KernelIdeal.Gen.transposes_S16x1024_S1024x16_1_0
      = reference (inputs m c) (matrix m c) := by
  funext p
  obtain ⟨j, i, rfl⟩ : ∃ (j : Fin 1024) (i : Fin 16), p = ix2 j i := ⟨p 0, p 1, eq_ix2 p⟩
  rw [kernel_entry, reference_entry, total_entry]
  exact congrArg _ (Finset.sum_congr rfl fun k _ => mul_comm _ _)

end Cert.BlockSum

end
-- ==== Proof.lean ====
/-
  The proof of `Cert.Claim`, put together from the modules of Proof/:

    BodyRuns   what one grid point's body does to its four buffers, case by case;
    Blocks     the blocks with zeros past the array's end, and the accumulator by recursion on the point;
    Launch     the whole program runs, at any float instance;
    SameText   the kernel as printed is the same program, so its frame is the same theorem;
    Output     what the program's arrays hold at the end;
    Sums       the accumulator over the extended reals is the sum over the vocabulary;
    Equation   the reference's entry, and that the two results are equal.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.SameText
public import proofs.«01_k».proof.Proof.Equation
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.ShloMosaic.TcCoe Idealize.SL.Sem

/-- The kernel runs, keeps its arguments and ends quiescent. -/
theorem kernel_frame : quiescent_Kernel (hKernel := Kernel.Gen.facts) :=
  fun m g _ => BlockSum.frame_printed (F := Bits) m g

/-- So does its idealization. -/
theorem ideal_frame : quiescent_KernelIdeal (hKernelIdeal := KernelIdeal.Gen.facts) :=
  fun m g _ => BlockSum.frame (F := Idealize.ShloMosaic.Ideal) m g

/-- So does the reference, which declares no semaphore. -/
theorem reference_frame : quiescent_ReferenceIdeal (hReferenceIdeal := ReferenceIdeal.Gen.facts) := by
  intro m g _
  hlo_run
  · exact fun _ => ⟨trivial, trivial⟩
  · exact sem_eq_zero_of_no_sems (by decide) _

/-- The idealization and the reference end with equal results. -/
theorem equal_results : algebraic_KernelIdeal_ReferenceIdeal (hKernelIdeal := KernelIdeal.Gen.facts)
    (hReferenceIdeal := ReferenceIdeal.Gen.facts) := by
  pair_intro
  · run_from (BlockSum.run_values m g)
  · hlo_run
    exact (BlockSum.results_equal m c).symm

/-- The five claims. -/
theorem claim : Cert.Claim :=
  ⟨Kernel.Gen.facts, KernelIdeal.Gen.facts, ReferenceIdeal.Gen.facts,
    kernel_frame, ideal_frame, reference_frame, trivial, equal_results⟩

end Cert.Proof

end
